-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x256x64 : Shape := ⟨4, ![16, 256, 256, 64]⟩
abbrev S16x256x128x128 : Shape := ⟨4, ![16, 256, 128, 128]⟩
abbrev S16x128x64x128 : Shape := ⟨4, ![16, 128, 64, 128]⟩
abbrev S1x128x128x128 : Shape := ⟨4, ![1, 128, 128, 128]⟩
abbrev S1x64x64x128 : Shape := ⟨4, ![1, 64, 64, 128]⟩
abbrev S128x128x128 : Shape := ⟨3, ![128, 128, 128]⟩
abbrev S64x2x128x128 : Shape := ⟨4, ![64, 2, 128, 128]⟩
abbrev S64x1x128x128 : Shape := ⟨4, ![64, 1, 128, 128]⟩
abbrev S64x128x128 : Shape := ⟨3, ![64, 128, 128]⟩
abbrev S64x128x64 : Shape := ⟨3, ![64, 128, 64]⟩
abbrev S64x64x2x64 : Shape := ⟨4, ![64, 64, 2, 64]⟩
abbrev S64x64x1x64 : Shape := ⟨4, ![64, 64, 1, 64]⟩
abbrev S64x64x64 : Shape := ⟨3, ![64, 64, 64]⟩
abbrev S64x64x128 : Shape := ⟨3, ![64, 64, 128]⟩
abbrev S16x128x128x64 : Shape := ⟨4, ![16, 128, 128, 64]⟩

abbrev nBuf : Space → Nat
  | .hbm => 4
  | .vmem => 4
  | .smem => 0
  | _ => 0

abbrev bufTy : (tb : Table) → Fin (tcTables nBuf tb) → BufTy
  | .hbm, ⟨0, _⟩ => ⟨S16x256x256x64, .f32⟩
  | .hbm, ⟨1, _⟩ => ⟨S16x256x128x128, .f32⟩
  | .hbm, ⟨2, _⟩ => ⟨S16x128x64x128, .f32⟩
  | .hbm, ⟨3, _⟩ => ⟨S16x128x128x64, .f32⟩
  | .local _ .vmem, ⟨0, _⟩ => ⟨S1x128x128x128, .f32⟩
  | .local _ .vmem, ⟨1, _⟩ => ⟨S1x128x128x128, .f32⟩
  | .local _ .vmem, ⟨2, _⟩ => ⟨S1x64x64x128, .f32⟩
  | .local _ .vmem, ⟨3, _⟩ => ⟨S1x64x64x128, .f32⟩
  | _, _ => ⟨S16x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S16x256x256x64 : Shape := ⟨4, ![16, 256, 256, 64]⟩
abbrev S16x128x2x128x2x64 : Shape := ⟨6, ![16, 128, 2, 128, 2, 64]⟩
abbrev S16x128x128x64x2x2 : Shape := ⟨6, ![16, 128, 128, 64, 2, 2]⟩
abbrev S16x128x128x64x4 : Shape := ⟨5, ![16, 128, 128, 64, 4]⟩
abbrev S_ : Shape := ⟨0, ![]⟩
abbrev S16x128x128x64 : Shape := ⟨4, ![16, 128, 128, 64]⟩
abbrev S16x128x128x64x1 : Shape := ⟨5, ![16, 128, 128, 64, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x256x256x64, .f32⟩
  | .hbm, ⟨1, _⟩ => ⟨S16x128x2x128x2x64, .f32⟩
  | .hbm, ⟨2, _⟩ => ⟨S16x128x128x64x2x2, .f32⟩
  | .hbm, ⟨3, _⟩ => ⟨S16x128x128x64x4, .f32⟩
  | .hbm, ⟨4, _⟩ => ⟨S_, .f32⟩
  | .hbm, ⟨5, _⟩ => ⟨S16x128x128x64, .f32⟩
  | .hbm, ⟨6, _⟩ => ⟨S16x128x128x64x4, .f32⟩
  | .hbm, ⟨7, _⟩ => ⟨S16x128x128x64x1, .f32⟩
  | .hbm, ⟨8, _⟩ => ⟨S16x128x128x64, .f32⟩
  | .hbm, ⟨9, _⟩ => ⟨S_, .f32⟩
  | .hbm, ⟨10, _⟩ => ⟨S16x128x128x64, .f32⟩
  | .hbm, ⟨11, _⟩ => ⟨S16x128x128x64, .f32⟩
  | .hbm, ⟨12, _⟩ => ⟨S_, .f32⟩
  | .hbm, ⟨13, _⟩ => ⟨S16x128x128x64, .f32⟩
  | .hbm, ⟨14, _⟩ => ⟨S16x128x128x64, .f32⟩
  | .hbm, ⟨15, _⟩ => ⟨S_, .f32⟩
  | .hbm, ⟨16, _⟩ => ⟨S16x128x128x64, .f32⟩
  | .hbm, ⟨17, _⟩ => ⟨S16x128x128x64, .f32⟩
  | .hbm, ⟨18, _⟩ => ⟨S16x128x128x64, .f32⟩
  | _, _ => ⟨S16x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.MidMax.lean ====
/-
  One 2×2 window, four extended reals: the second smallest of them, which the reference reads off a sort and the kernel
  computes with minima and maxima of pairs; and the blended value both programs return for the window.
-/
module

public import Idealize.ShloMosaic.Lib.SortFacts
public import Idealize.ShloMosaic.PureOps.Ideal.Laws

@[expose] public section

noncomputable section

namespace Cert.MidMax

open Idealize.ShloMosaic

/-- The second smallest of `a b c d`, from the pairs `(a, c)` and `(b, d)`: the larger of the two minima or the smaller
    of the two maxima, whichever is less. -/
def second (a b c d : EReal) : EReal := min (max (min a c) (min b d)) (min (max a c) (max b d))

/-- The largest of `a b c d`, from the same pairs. -/
def largest (a b c d : EReal) : EReal := max (max a c) (max b d)

/-- The value of one window: half the largest entry plus half the second smallest, clipped below at zero. -/
def window (a b c d : EReal) : EReal :=
  Ideal.ofBits .f32 0x3F000000#32 * largest a b c d + Ideal.ofBits .f32 0x3F000000#32 * max (second a b c d) 0

/-- At least three of the four entries are at or above `t` exactly when the second smallest is. -/
theorem le_second_iff (a b c d t : EReal) :
    t ≤ second a b c d ↔ (t ≤ a ∧ t ≤ b ∧ t ≤ c) ∨ (t ≤ a ∧ t ≤ b ∧ t ≤ d) ∨ (t ≤ a ∧ t ≤ c ∧ t ≤ d) ∨ (t ≤ b ∧ t ≤ c ∧ t ≤ d) := by
  unfold second
  simp only [le_min_iff, le_max_iff]
  tauto

/-- If the four entries are numbered by `p` in nondecreasing order, the entry numbered 1 is the second smallest. -/
theorem second_eq_of_sorted (v : Fin 4 → EReal) (p : Fin 4 → Fin 4) (hp : Function.Injective p)
    (hmono : ∀ i j : Fin 4, i < j → v (p i) ≤ v (p j)) : v (p 1) = second (v 0) (v 1) (v 2) (v 3) := by
  have h01 := hmono 0 1 (by decide)
  have h12 := hmono 1 2 (by decide)
  have h23 := hmono 2 3 (by decide)
  have hne : ∀ i j : Fin 4, i ≠ j → p i ≠ p j := fun i j h e => h (hp e)
  have n01 := hne 0 1 (by decide)
  have n02 := hne 0 2 (by decide)
  have n03 := hne 0 3 (by decide)
  have n12 := hne 1 2 (by decide)
  have n13 := hne 1 3 (by decide)
  have n23 := hne 2 3 (by decide)
  clear hne hmono hp
  generalize p 0 = q0 at *
  generalize p 1 = q1 at *
  generalize p 2 = q2 at *
  generalize p 3 = q3 at *
  apply le_antisymm
  · rw [le_second_iff]
    have h13 := h12.trans h23
    fin_cases q0 <;> fin_cases q1 <;> first | exact absurd rfl n01 | skip
    all_goals (fin_cases q2 <;> first | exact absurd rfl n02 | exact absurd rfl n12 | skip)
    all_goals (fin_cases q3 <;> first | exact absurd rfl n03 | exact absurd rfl n13 | exact absurd rfl n23 | skip)
    all_goals simp_all
  · have hle := (le_second_iff (v 0) (v 1) (v 2) (v 3) (second (v 0) (v 1) (v 2) (v 3))).1 le_rfl
    generalize second (v 0) (v 1) (v 2) (v 3) = s at *
    fin_cases q0 <;> fin_cases q1 <;> first | exact absurd rfl n01 | skip
    all_goals rcases hle with ⟨ha, hb, hc⟩ | ⟨ha, hb, hc⟩ | ⟨ha, hb, hc⟩ | ⟨ha, hb, hc⟩
    all_goals first | assumption | exact le_trans (by assumption) h01

/-- Sorting four entries by any comparator that answers "less than" puts the second smallest at position 1. -/
theorem sorted_one (v : Fin 4 → EReal) (before : Fin 4 → Fin 4 → Bool) (hb : ∀ i j, before i j = true ↔ v i < v j) :
    v (sortedFrom before 1) = second (v 0) (v 1) (v 2) (v 3) := by
  have hf : ∀ i j, before i j = false ↔ v j ≤ v i := fun i j => by
    rw [← not_lt, ← hb, Bool.not_eq_true]
  refine second_eq_of_sorted v (sortedFrom before) (sortedFrom_injective before) fun i j hij => ?_
  rw [← hf]
  exact sortedFrom_noInversion before before (fun a b h => (hf b a).2 ((hb a b).1 h).le) (fun _ _ h => h)
    (fun a b c h h' => (hf a c).2 (((hf b c).1 h').trans ((hf a b).1 h))) i j hij

end Cert.MidMax

end
-- ==== Proof.Block.lean ====
/-
  What one block of the kernel computes, read at an index: each output lane holds the value of its 2×2 window.
-/
module

public import proofs.«01_k».proof.Proof.MidMax
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal Cert.KernelIdeal.Gen Cert.MidMax

/-- Row `o` (0 or 1) of every pair of image rows in the block. -/
def row (x : FVec Ideal S1x128x128x128 .f32) (o : Nat) (h : S64x2x128x128.Slices ![0, o, 0, 0] S64x1x128x128) :
    FVec Ideal S64x128x128 .f32 :=
  shapeCast S64x128x128 (extractStridedSlice S64x1x128x128 ![0, o, 0, 0]
    (shapeCast S64x2x128x128 (shapeCast S128x128x128 x shapeCasts_S1x128x128x128_S128x128x128)
      shapeCasts_S128x128x128_S64x2x128x128) h) shapeCasts_S64x1x128x128_S64x128x128

/-- The left column of each pair: lanes 0 to 63. -/
def left (y : FVec Ideal S64x128x128 .f32) : FVec Ideal S64x128x64 .f32 :=
  extractStridedSlice S64x128x64 ![0, 0, 0] y slices_S64x128x128_o0_0_0_S64x128x64

/-- The right column of each pair: lanes 64 to 127. -/
def right (y : FVec Ideal S64x128x128 .f32) : FVec Ideal S64x128x64 .f32 :=
  extractStridedSlice S64x128x64 ![0, 0, 64] y slices_S64x128x128_o0_0_64_S64x128x64

/-- Each window's value, before the output's columns are paired up again. -/
def pooled (x : FVec Ideal S1x128x128x128 .f32) : FVec Ideal S64x128x64 .f32 :=
  have lo := minimumf (row x 0 slices_S64x2x128x128_o0_0_0_0_S64x1x128x128) (row x 1 slices_S64x2x128x128_o0_1_0_0_S64x1x128x128)
  have hi := maximumf (row x 0 slices_S64x2x128x128_o0_0_0_0_S64x1x128x128) (row x 1 slices_S64x2x128x128_o0_1_0_0_S64x1x128x128)
  addf (mulf (broadcast S64x128x64 (Scalar.ofBits .f32 0x3F000000#32)) (maximumf (left hi) (right hi)))
    (mulf (broadcast S64x128x64 (Scalar.ofBits .f32 0x3F000000#32))
      (maximumf (minimumf (maximumf (left lo) (right lo)) (minimumf (left hi) (right hi)))
        (broadcast S64x128x64 (Scalar.ofBits .f32 0x00000000#32))))

/-- A window's value from the block: rows `2i` and `2i + 1`, pair column `c`, channel `l`. -/
theorem pooled_apply (x : FVec Ideal S1x128x128x128 .f32) (i : Fin 64) (c : Fin 128) (l : Fin 64) :
    pooled x (ix3 i c l)
      = window (x (ix4 0 ⟨i.val * 2, by omega⟩ c ⟨l.val, by omega⟩)) (x (ix4 0 ⟨i.val * 2, by omega⟩ c ⟨64 + l.val, by omega⟩))
          (x (ix4 0 ⟨i.val * 2 + 1, by omega⟩ c ⟨l.val, by omega⟩)) (x (ix4 0 ⟨i.val * 2 + 1, by omega⟩ c ⟨64 + l.val, by omega⟩)) := by
  pointwise [pooled, row, left, right, window, second, largest]

/-- The columns paired up again: column `k * 2` in the lower 64 lanes, column `k * 2 + 1` in the upper 64. -/
def paired (y : FVec Ideal S64x128x64 .f32) : FVec Ideal S1x64x64x128 .f32 :=
  have v24 : FVec Ideal S64x64x2x64 .f32 := shapeCast S64x64x2x64 y shapeCasts_S64x128x64_S64x64x2x64
  shapeCast S1x64x64x128 (concatenate S64x64x128 2
    [⟨S64x64x64, shapeCast S64x64x64 (extractStridedSlice S64x64x1x64 ![0, 0, 0, 0] v24 slices_S64x64x2x64_o0_0_0_0_S64x64x1x64) shapeCasts_S64x64x1x64_S64x64x64⟩,
     ⟨S64x64x64, shapeCast S64x64x64 (extractStridedSlice S64x64x1x64 ![0, 0, 1, 0] v24 slices_S64x64x2x64_o0_0_1_0_S64x64x1x64) shapeCasts_S64x64x1x64_S64x64x64⟩]
    concatenates_S64x64x64_S64x64x64_S64x64x128_d2) shapeCasts_S64x64x128_S1x64x64x128

/-- `paired`, read at an index. -/
theorem paired_apply (y : FVec Ideal S64x128x64 .f32) (z : Fin 1) (i : Fin 64) (k : Fin 64) (l : Fin 128) :
    paired y (ix4 z i k l)
      = if h : l.val < 64 then y (ix3 i ⟨k.val * 2, by omega⟩ ⟨l.val, h⟩)
        else y (ix3 i ⟨k.val * 2 + 1, by omega⟩ ⟨l.val - 64, by omega⟩) := by
  pointwise [paired]

/-- What the kernel stores is its windows' values, paired up. -/
theorem pay_eq (x : FVec Ideal S1x128x128x128 .f32) : k0_pay1 (F := Ideal) x = paired (pooled x) := rfl

/-- A block of the kernel's input holds two neighbouring columns of 64 channels side by side in its 128 lanes. Output row
    `i`, column pair `k`, lane `l` is the value of the window in rows `r = 2i` and `r' = 2i + 1`, pair column `2k + l/64`,
    its two columns' lanes being `lo = l % 64` and `hi = 64 + l % 64`. -/
theorem pay_apply (x : FVec Ideal S1x128x128x128 .f32) (z : Fin 1) (i : Fin 64) (k : Fin 64) (l : Fin 128)
    (r r' p lo hi : Fin 128) (hr : r.val = i.val * 2) (hr' : r'.val = i.val * 2 + 1) (hp : p.val = k.val * 2 + l.val / 64)
    (hlo : lo.val = l.val % 64) (hhi : hi.val = 64 + l.val % 64) :
    k0_pay1 (F := Ideal) x (ix4 z i k l)
      = window (x (ix4 0 r p lo)) (x (ix4 0 r p hi)) (x (ix4 0 r' p lo)) (x (ix4 0 r' p hi)) := by
  have b_r : i.val * 2 < 128 := by omega
  have b_r' : i.val * 2 + 1 < 128 := by omega
  obtain rfl : r = ⟨i.val * 2, b_r⟩ := Fin.ext hr
  obtain rfl : r' = ⟨i.val * 2 + 1, b_r'⟩ := Fin.ext hr'
  rw [pay_eq, paired_apply]
  by_cases h : l.val < 64
  · have b_p : k.val * 2 < 128 := by omega
    have b_lo : l.val < 128 := by omega
    have b_hi : 64 + l.val < 128 := by omega
    obtain rfl : p = ⟨k.val * 2, b_p⟩ := Fin.ext (by show p.val = k.val * 2; omega)
    obtain rfl : lo = ⟨l.val, b_lo⟩ := Fin.ext (by show lo.val = l.val; omega)
    obtain rfl : hi = ⟨64 + l.val, b_hi⟩ := Fin.ext (by show hi.val = 64 + l.val; omega)
    rw [dif_pos h, pooled_apply]
  · have b_p : k.val * 2 + 1 < 128 := by omega
    have b_lo : l.val - 64 < 128 := by omega
    have b_hi : 64 + (l.val - 64) < 128 := by omega
    obtain rfl : p = ⟨k.val * 2 + 1, b_p⟩ := Fin.ext (by show p.val = k.val * 2 + 1; omega)
    obtain rfl : lo = ⟨l.val - 64, b_lo⟩ := Fin.ext (by show lo.val = l.val - 64; omega)
    obtain rfl : hi = ⟨64 + (l.val - 64), b_hi⟩ := Fin.ext (by show hi.val = 64 + (l.val - 64); omega)
    rw [dif_neg h, pooled_apply]

end Cert.KernelIdeal.Block

end
-- ==== Proof.Array.lean ====
/-
  What the kernel's result array holds after the run: the blocks tile the pipeline's output array, each block holds its
  windows' values, and the reshape after the pipeline reads that array column by column.
-/
module

public import proofs.«01_k».proof.Proof.Block
public import proofs.«01_k».proof.Proof.Gen.KernelIdeal.Frame
public import Idealize.ShloMosaic.Lib.Pipeline.Value

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.MidMax

variable (m : (ℓ : Loc nD τ sig) → Buf (Elt Ideal) ℓ) (ρ : Dev nD → PrngReg)

/-- The pipeline's output array as a function of its input array: at batch `b`, row `i`, column pair `k`, lane `l`, the
    value of the window in rows `2i`, `2i + 1` and pair column `2k + l/64`, channel `l % 64`. -/
def pool (x : FVec Ideal S16x256x128x128 .f32) : FVec Ideal S16x128x64x128 .f32 := fun j =>
  window
    (x (ix4 (j 0) ⟨(j 1).val * 2, by have h : (j 1).val < 128 := (j 1).isLt; omega⟩
      ⟨(j 2).val * 2 + (j 3).val / 64, by have h : (j 2).val < 64 := (j 2).isLt; have h' : (j 3).val < 128 := (j 3).isLt; omega⟩
      ⟨(j 3).val % 64, by omega⟩))
    (x (ix4 (j 0) ⟨(j 1).val * 2, by have h : (j 1).val < 128 := (j 1).isLt; omega⟩
      ⟨(j 2).val * 2 + (j 3).val / 64, by have h : (j 2).val < 64 := (j 2).isLt; have h' : (j 3).val < 128 := (j 3).isLt; omega⟩
      ⟨64 + (j 3).val % 64, by omega⟩))
    (x (ix4 (j 0) ⟨(j 1).val * 2 + 1, by have h : (j 1).val < 128 := (j 1).isLt; omega⟩
      ⟨(j 2).val * 2 + (j 3).val / 64, by have h : (j 2).val < 64 := (j 2).isLt; have h' : (j 3).val < 128 := (j 3).isLt; omega⟩
      ⟨(j 3).val % 64, by omega⟩))
    (x (ix4 (j 0) ⟨(j 1).val * 2 + 1, by have h : (j 1).val < 128 := (j 1).isLt; omega⟩
      ⟨(j 2).val * 2 + (j 3).val / 64, by have h : (j 2).val < 64 := (j 2).isLt; have h' : (j 3).val < 128 := (j 3).isLt; omega⟩
      ⟨64 + (j 3).val % 64, by omega⟩))

/-- The offsets of the body's load and store are all zero. -/
theorem hz : (![0, 0, 0, 0] : Fin 4 → Nat) = fun _ => 0 := funext fun a => by fin_cases a <;> rfl

/-- Where point `t`'s two blocks start: at batch `t / 2`, and at the input's or the output's half `t % 2` of the rows. -/
theorem starts : ∀ t : Fin grid0.N,
    (win0_0.index t 0 = t.val / 2 ∧ win0_0.index t 1 = t.val % 2 ∧ win0_0.index t 2 = 0 ∧ win0_0.index t 3 = 0)
    ∧ (win0_1.index t 0 = t.val / 2 ∧ win0_1.index t 1 = t.val % 2 ∧ win0_1.index t 2 = 0 ∧ win0_1.index t 3 = 0) := by
  decide +kernel

/-- The grid has 16 · 2 = 32 points. -/
theorem points (t : Fin cfg0.N) : t.val < 32 := lt_of_lt_of_eq t.isLt N_0

/-- Where an index of point `t`'s input block lies in the input array. -/
theorem emb_in (t : Fin cfg0.N) (z : Fin 1) (p q l : Fin 128) :
    (win0_0.blk t).view.emb (ix4 z p q l)
      = (ix4 ⟨t.val / 2, by have := points t; omega⟩ ⟨t.val % 2 * 128 + p.val, by omega⟩ q l : S16x256x128x128.Idx) := by
  obtain ⟨⟨a0, a1, a2, a3⟩, -⟩ := starts t
  have hz : z.val = 0 := by omega
  funext a
  apply Fin.ext
  match a with
  | ⟨0, _⟩ => show win0_0.index t 0 * 1 + 1 * z.val = t.val / 2; rw [a0]; omega
  | ⟨1, _⟩ => show win0_0.index t 1 * 128 + 1 * p.val = t.val % 2 * 128 + p.val; rw [a1]; omega
  | ⟨2, _⟩ => show win0_0.index t 2 * 128 + 1 * q.val = q.val; rw [a2]; omega
  | ⟨3, _⟩ => show win0_0.index t 3 * 128 + 1 * l.val = l.val; rw [a3]; omega

/-- Where an index of point `t`'s output block lies in the output array. -/
theorem emb_out (t : Fin cfg0.N) (z : Fin 1) (i k : Fin 64) (l : Fin 128) :
    (win0_1.blk t).view.emb (ix4 z i k l)
      = (ix4 ⟨t.val / 2, by have := points t; omega⟩ ⟨t.val % 2 * 64 + i.val, by omega⟩ k l : S16x128x64x128.Idx) := by
  obtain ⟨-, a0, a1, a2, a3⟩ := starts t
  have hz : z.val = 0 := by omega
  funext a
  apply Fin.ext
  match a with
  | ⟨0, _⟩ => show win0_1.index t 0 * 1 + 1 * z.val = t.val / 2; rw [a0]; omega
  | ⟨1, _⟩ => show win0_1.index t 1 * 64 + 1 * i.val = t.val % 2 * 64 + i.val; rw [a1]; omega
  | ⟨2, _⟩ => show win0_1.index t 2 * 64 + 1 * k.val = k.val; rw [a2]; omega
  | ⟨3, _⟩ => show win0_1.index t 3 * 128 + 1 * l.val = l.val; rw [a3]; omega

/-- An index of point `t`'s input block reads the input array there. -/
theorem iblk_apply (c : Dev nD) (t : Fin cfg0.N) (z : Fin 1) (p q l : Fin 128) :
    iblk m c 0 t (ix4 z p q l)
      = V m c main_v0 (ix4 ⟨t.val / 2, by have := points t; omega⟩ ⟨t.val % 2 * 128 + p.val, by omega⟩ q l : S16x256x128x128.Idx) :=
  congrArg (V m c main_v0) (emb_in t z p q l)

/-- `pool` at an index, its four entries' coordinates given by their values. -/
theorem pool_apply (x : FVec Ideal S16x256x128x128 .f32) (b : Fin 16) (i : Fin 128) (k : Fin 64) (l : Fin 128)
    (r r' : Fin 256) (p lo hi : Fin 128) (hr : r.val = i.val * 2) (hr' : r'.val = i.val * 2 + 1)
    (hp : p.val = k.val * 2 + l.val / 64) (hlo : lo.val = l.val % 64) (hhi : hi.val = 64 + l.val % 64) :
    pool x (ix4 b i k l)
      = window (x (ix4 b r p lo)) (x (ix4 b r p hi)) (x (ix4 b r' p lo)) (x (ix4 b r' p hi)) := by
  have b_r : i.val * 2 < 256 := by omega
  have b_r' : i.val * 2 + 1 < 256 := by omega
  have b_p : k.val * 2 + l.val / 64 < 128 := by omega
  have b_lo : l.val % 64 < 128 := by omega
  have b_hi : 64 + l.val % 64 < 128 := by omega
  obtain rfl : r = ⟨i.val * 2, b_r⟩ := Fin.ext hr
  obtain rfl : r' = ⟨i.val * 2 + 1, b_r'⟩ := Fin.ext hr'
  obtain rfl : p = ⟨k.val * 2 + l.val / 64, b_p⟩ := Fin.ext hp
  obtain rfl : lo = ⟨l.val % 64, b_lo⟩ := Fin.ext hlo
  obtain rfl : hi = ⟨64 + l.val % 64, b_hi⟩ := Fin.ext hhi
  rfl

/-- What point `t` writes back is block `t` of the pooled input array. -/
theorem flushed_eq (c : Dev nD) (t : Fin cfg0.N) :
    (dats m 0 c).flushed 1 t = (win0_1.blk t).view.read (Elt Ideal) (pool (V m c main_v0)) := by
  show (cfg0.win 1).cut (grid0.coords t) ((dats m 0 c).after 1 t) = _
  rw [after0_1]
  unfold out0_1
  rw [View.canon_unit_zero hz, View.ld_unit_zero hz]
  funext j
  obtain ⟨z, i, k, l, rfl⟩ : ∃ (z : Fin 1) (i k : Fin 64) (l : Fin 128), j = (ix4 z i k l : S1x64x64x128.Idx) :=
    ⟨j 0, j 1, j 2, j 3, funext fun a => by fin_cases a <;> rfl⟩
  show k0_pay1 (F := Ideal) (iblk m c 0 t) (ix4 z i k l) = pool (V m c main_v0) ((win0_1.blk t).view.emb (ix4 z i k l))
  rw [emb_out, Block.pay_apply (iblk m c 0 t) z i k l ⟨i.val * 2, by omega⟩ ⟨i.val * 2 + 1, by omega⟩
      ⟨k.val * 2 + l.val / 64, by omega⟩ ⟨l.val % 64, by omega⟩ ⟨64 + l.val % 64, by omega⟩ rfl rfl rfl rfl rfl,
    pool_apply (V m c main_v0) _ _ k l ⟨t.val % 2 * 128 + i.val * 2, by omega⟩ ⟨t.val % 2 * 128 + (i.val * 2 + 1), by omega⟩
      ⟨k.val * 2 + l.val / 64, by omega⟩ ⟨l.val % 64, by omega⟩ ⟨64 + l.val % 64, by omega⟩
      (by show t.val % 2 * 128 + i.val * 2 = (t.val % 2 * 64 + i.val) * 2; omega)
      (by show t.val % 2 * 128 + (i.val * 2 + 1) = (t.val % 2 * 64 + i.val) * 2 + 1; omega) rfl rfl rfl,
    iblk_apply, iblk_apply, iblk_apply, iblk_apply]

/-- Every index of the output array is in some point's block: batch `b`, half `h` of the rows is point `2b + h`. -/
theorem cover (i : S16x128x64x128.Idx) :
    ∃ t : Fin cfg0.N, (cfg0.win 1).flush t = true ∧ i ∈ ((cfg0.win 1).blk t).view.set := by
  have h0 : (i 0).val < 16 := (i 0).isLt
  have h1 : (i 1).val < 128 := (i 1).isLt
  have h2 : (i 2).val < 64 := (i 2).isLt
  have h3 : (i 3).val < 128 := (i 3).isLt
  have ht : (i 0).val * 2 + (i 1).val / 64 < cfg0.N := lt_of_lt_of_eq (by omega) N_0.symm
  refine ⟨⟨(i 0).val * 2 + (i 1).val / 64, ht⟩, flush0_1 _, ?_⟩
  show i ∈ ((View.whole main_v1).slice (win0_1.rect ⟨(i 0).val * 2 + (i 1).val / 64, ht⟩)).set
  rw [View.set_slice_whole, Rect.mem_set_unit]
  obtain ⟨-, a0, a1, a2, a3⟩ := starts ⟨(i 0).val * 2 + (i 1).val / 64, ht⟩
  dsimp only at a0 a1
  intro a
  match a with
  | ⟨0, _⟩ => show win0_1.index _ 0 * 1 ≤ (i 0).val ∧ (i 0).val < win0_1.index _ 0 * 1 + 1; rw [a0]; omega
  | ⟨1, _⟩ => show win0_1.index _ 1 * 64 ≤ (i 1).val ∧ (i 1).val < win0_1.index _ 1 * 64 + 64; rw [a1]; omega
  | ⟨2, _⟩ => show win0_1.index _ 2 * 64 ≤ (i 2).val ∧ (i 2).val < win0_1.index _ 2 * 64 + 64; rw [a2]; omega
  | ⟨3, _⟩ => show win0_1.index _ 3 * 128 ≤ (i 3).val ∧ (i 3).val < win0_1.index _ 3 * 128 + 128; rw [a3]; omega

/-- So the output array ends holding the pooled input array. -/
theorem final (c : Dev nD) : (dats m 0 c).arrAt 1 cfg0.N = pool (V m c main_v0) :=
  (dats m 0 c).arrAt_eq_of_cover 1 (pool (V m c main_v0)) (fun t _ => flushed_eq m c t) cover

/-- The kernel's result as a function of its argument array: paired columns in, pooled, columns out. -/
def result (x : FVec Ideal S16x256x256x64 .f32) : FVec Ideal S16x128x128x64 .f32 :=
  shapeCast S16x128x128x64 (pool (shapeCast S16x256x128x128 x shapeCasts_S16x256x256x64_S16x256x128x128))
    shapeCasts_S16x128x64x128_S16x128x128x64

/-- The array the pipeline reads is the argument, reshaped. -/
theorem entry_eq (c : Dev nD) :
    V m c main_v0 = shapeCast S16x256x128x128 (m ((c.tc : Thread nD τ).loc main_arg0)) shapeCasts_S16x256x256x64_S16x256x128x128 := by
  entry_read
  rfl

/-- The result array, as the reshape after the pipeline leaves it. -/
theorem tail_eq (c : Dev nD) :
    Pipeline.afterTail₀ cfgs (dats m) 0 (V0 m) [hostOps1] c main_v2 = result (m ((c.tc : Thread nD τ).loc main_arg0)) := by
  have harr := Pipeline.withArrays_arr spec0 launch0.win.arr_inj c (V0 m c) (fun w => (dats m 0 c).arrAt w cfg0.N) 1
  unfold Pipeline.afterTail₀ result
  rw [← entry_eq m c, ← final m c, ← harr]
  simp only [hostOps1, List.flatten_cons, List.flatten_nil, List.append_nil]
  after_results
  rfl

/-- The kernel's run: the result array holds `result` of the argument array, which is unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) := by
  run_from (run_main m ρ) & (Gen.unchanged m ρ)
  exact tail_eq m c

end Cert.KernelIdeal.Array

end
-- ==== Proof.Ref.lean ====
/-
  The reference's result, read at an index: the value of the 2×2 window at that row, column and channel.
-/
module

public import proofs.«01_k».proof.Proof.MidMax
public import proofs.«01_k».proof.Proof.Gen.ReferenceIdeal.Run
public import Idealize.ShloMosaic.Lib.Pointwise

@[expose] public section

set_option maxRecDepth 16384

noncomputable section

namespace Cert.ReferenceIdeal.Pool

open Idealize.ShloMosaic Idealize.ShloMosaic.TcCoe Idealize.SL.Sem Cert.ReferenceIdeal Cert.ReferenceIdeal.Gen Cert.MidMax

/-- The windows as the reference lays them out: the last axis lists the four entries, row by row. -/
abbrev windows (x : FVec Ideal S16x256x256x64 .f32) : FVec Ideal S16x128x128x64x4 .f32 :=
  shapeCast _ (transpose S16x128x128x64x2x2 [0, 1, 3, 5, 2, 4]
    (shapeCast _ x shapeCasts_S16x256x256x64_S16x128x2x128x2x64)
    transposes_S16x128x2x128x2x64_S16x128x128x64x2x2_0_1_3_5_2_4) shapeCasts_S16x128x128x64x2x2_S16x128x128x64x4

/-- Entry `e` of a window is in row `2i + e/2` and column `2j + e%2` of the image. -/
theorem windows_apply (x : FVec Ideal S16x256x256x64 .f32) (b : Fin 16) (i j : Fin 128) (ch : Fin 64) (e : Fin 4) :
    windows x (ix5 b i j ch e)
      = x (ix4 b ⟨i.val * 2 + e.val / 2, by omega⟩ ⟨j.val * 2 + e.val % 2, by omega⟩ ch) := by
  pointwise [windows]

/-- The comparator the reference sorts with answers "less than": with no NaN among the extended reals and a single zero,
    its treatment of NaN and of signed zeros changes nothing. -/
theorem comparator_iff (l r : EReal) : (comparator_f32_d4 (F := Ideal) l r == 1#1) = true ↔ l < r := by
  have hz : ∀ a : EReal, (if a ≠ a then Ideal.ofBits .f32 0x7FC00000#32 else if a = 0 then 0 else a) = a := fun a => by
    rw [if_neg (not_not.2 rfl)]
    split
    · exact (by assumption : a = 0).symm
    · rfl
  pointwise [comparator_f32_d4]
  rw [hz, hz, Ideal.cmpfTotal_def]
  have hb : ∀ t : Bool, BitVec.ofBool t = 1#1 ↔ t = true := by decide
  simp [Ideal.cmp, CmpDirection.ordered, hb]

/-- Entry 1 of each sorted window is the window's second smallest entry. -/
theorem sort_apply (w : FVec Ideal S16x128x128x64x4 .f32) (b : Fin 16) (i j : Fin 128) (ch : Fin 64) :
    Host.sort S16x128x128x64x4 4 (comparator_f32_d4 (F := Ideal)) w (ix5 b i j ch 1)
      = second (w (ix5 b i j ch 0)) (w (ix5 b i j ch 1)) (w (ix5 b i j ch 2)) (w (ix5 b i j ch 3)) := by
  have hal : ∀ e : Fin 4, (ix5 b i j ch 1 : S16x128x128x64x4.Idx).along 4 e = ix5 b i j ch e := fun e =>
    funext fun a => by fin_cases a <;> rfl
  pointwise [Host.sort]
  have h := sorted_one (fun e : Fin 4 => w ((ix5 b i j ch 1 : S16x128x128x64x4.Idx).along 4 e))
    (fun k k' => comparator_f32_d4 (F := Ideal) (w ((ix5 b i j ch 1 : S16x128x128x64x4.Idx).along 4 k))
      (w ((ix5 b i j ch 1 : S16x128x128x64x4.Idx).along 4 k')) == 1#1) fun k k' => comparator_iff _ _
  refine h.trans ?_
  simp only [hal]

/-- The reduction's value at a window is the window's largest entry. -/
theorem max_apply (w : FVec Ideal S16x128x128x64x4 .f32) (b : Fin 16) (i j : Fin 128) (ch : Fin 64) :
    Host.reduce FloatOps.maximumf w (constant (F := Ideal) S_ .f32 0xFF800000#32)
        reducesTo_S16x128x128x64x4_S16x128x128x64_d4 h_S_ (ix4 b i j ch)
      = largest (w (ix5 b i j ch 0)) (w (ix5 b i j ch 1)) (w (ix5 b i j ch 2)) (w (ix5 b i j ch 3)) := by
  have hbot : Ideal.ofBits .f32 0xFF800000#32 = (⊥ : EReal) := by simp [Ideal.ofBits, Ideal.ieee]
  have huniv : (Finset.univ : Finset (Fin 4)) = {0, 1, 2, 3} := by decide
  pointwise [largest]
  rw [hbot, huniv]
  simp [Finset.fold_insert]
  ac_rfl

/-- The reference's result as a function of its argument array. -/
def result (x : FVec Ideal S16x256x256x64 .f32) : FVec Ideal S16x128x128x64 .f32 :=
  addf (mulf (broadcastInDim S16x128x128x64 ![] bcast_S_S16x128x128x64 (constant S_ .f32 0x3F000000#32))
      (Host.reduce FloatOps.maximumf (windows x) (constant S_ .f32 0xFF800000#32)
        reducesTo_S16x128x128x64x4_S16x128x128x64_d4 h_S_))
    (mulf (broadcastInDim S16x128x128x64 ![] bcast_S_S16x128x128x64 (constant S_ .f32 0x3F000000#32))
      (maximumf (shapeCast _ (extractStridedSlice S16x128x128x64x1 ![0, 0, 0, 0, 1]
            (Host.sort S16x128x128x64x4 4 comparator_f32_d4 (windows x))
            slices_S16x128x128x64x4_S16x128x128x64x1_0_0_0_0_1) shapeCasts_S16x128x128x64x1_S16x128x128x64)
        (broadcastInDim S16x128x128x64 ![] bcast_S_S16x128x128x64 (constant S_ .f32 0x00000000#32))))

/-- `result` from the arrays of largest entries and of sorted windows, read at an index. -/
theorem blend_apply (M : FVec Ideal S16x128x128x64 .f32) (S : FVec Ideal S16x128x128x64x4 .f32)
    (b : Fin 16) (i j : Fin 128) (ch : Fin 64) :
    addf (mulf (broadcastInDim S16x128x128x64 ![] bcast_S_S16x128x128x64 (constant S_ .f32 0x3F000000#32)) M)
      (mulf (broadcastInDim S16x128x128x64 ![] bcast_S_S16x128x128x64 (constant S_ .f32 0x3F000000#32))
        (maximumf (shapeCast _ (extractStridedSlice S16x128x128x64x1 ![0, 0, 0, 0, 1] S
              slices_S16x128x128x64x4_S16x128x128x64x1_0_0_0_0_1) shapeCasts_S16x128x128x64x1_S16x128x128x64)
          (broadcastInDim S16x128x128x64 ![] bcast_S_S16x128x128x64 (constant S_ .f32 0x00000000#32)))) (ix4 b i j ch)
      = Ideal.ofBits .f32 0x3F000000#32 * M (ix4 b i j ch) + Ideal.ofBits .f32 0x3F000000#32 * max (S (ix5 b i j ch 1)) 0 := by
  pointwise

/-- The reference's result at row `i`, column `j`, channel `ch` is the value of the window in rows `r = 2i`, `r' = 2i + 1`
    and columns `q = 2j`, `q' = 2j + 1`. -/
theorem result_apply (x : FVec Ideal S16x256x256x64 .f32) (b : Fin 16) (i j : Fin 128) (ch : Fin 64) (r r' q q' : Fin 256)
    (hr : r.val = i.val * 2) (hr' : r'.val = i.val * 2 + 1) (hq : q.val = j.val * 2) (hq' : q'.val = j.val * 2 + 1) :
    result x (ix4 b i j ch)
      = window (x (ix4 b r q ch)) (x (ix4 b r q' ch)) (x (ix4 b r' q ch)) (x (ix4 b r' q' ch)) := by
  have b_r : i.val * 2 < 256 := by omega
  have b_r' : i.val * 2 + 1 < 256 := by omega
  have b_q : j.val * 2 < 256 := by omega
  have b_q' : j.val * 2 + 1 < 256 := by omega
  obtain rfl : r = ⟨i.val * 2, b_r⟩ := Fin.ext hr
  obtain rfl : r' = ⟨i.val * 2 + 1, b_r'⟩ := Fin.ext hr'
  obtain rfl : q = ⟨j.val * 2, b_q⟩ := Fin.ext hq
  obtain rfl : q' = ⟨j.val * 2 + 1, b_q'⟩ := Fin.ext hq'
  refine (blend_apply _ _ b i j ch).trans ?_
  rw [max_apply, sort_apply, windows_apply, windows_apply, windows_apply, windows_apply]
  rfl

/-- The reference's run: the result array holds `result` of the argument array, which is unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = result (m ((c.tc : Thread nD τ).loc main_arg0))
      ∧ r.2.mem ((c.tc : Thread nD τ).loc main_arg0) = m ((c.tc : Thread nD τ).loc main_arg0) :=
  Value.run (F := Ideal) m ρ

end Cert.ReferenceIdeal.Pool

end
-- ==== Proof.Equation.lean ====
/-
  The equation: the kernel's result array and the reference's are the same function of the argument array.
-/
module

public import proofs.«01_k».proof.Proof.Array
public import proofs.«01_k».proof.Proof.Ref

@[expose] public section

set_option maxRecDepth 16384

noncomputable section

namespace Cert.Equation

open Idealize.ShloMosaic Cert.KernelIdeal Cert.KernelIdeal.Gen Cert.MidMax

/-- Pairing the image's columns: pair column `p`, lane `l` is column `2p + l/64`, channel `l % 64`. -/
theorem paired_in_apply (x : FVec Ideal S16x256x256x64 .f32) (b : Fin 16) (r : Fin 256) (p l : Fin 128)
    (q : Fin 256) (ch : Fin 64) (hq : q.val = p.val * 2 + l.val / 64) (hch : ch.val = l.val % 64) :
    shapeCast S16x256x128x128 x shapeCasts_S16x256x256x64_S16x256x128x128 (ix4 b r p l) = x (ix4 b r q ch) := by
  have b_q : p.val * 2 + l.val / 64 < 256 := by omega
  have b_ch : l.val % 64 < 64 := by omega
  obtain rfl : q = ⟨p.val * 2 + l.val / 64, b_q⟩ := Fin.ext hq
  obtain rfl : ch = ⟨l.val % 64, b_ch⟩ := Fin.ext hch
  pointwise

/-- Unpairing the result's columns: column `j`, channel `ch` is pair column `j / 2`, lane `(j % 2) * 64 + ch`. -/
theorem unpaired_out_apply (y : FVec Ideal S16x128x64x128 .f32) (b : Fin 16) (i j : Fin 128) (ch : Fin 64) :
    shapeCast S16x128x128x64 y shapeCasts_S16x128x64x128_S16x128x128x64 (ix4 b i j ch)
      = y (ix4 b i ⟨j.val / 2, by omega⟩ ⟨j.val % 2 * 64 + ch.val, by omega⟩) := by
  pointwise

/-- The kernel's result at row `i`, column `j`, channel `ch` is the value of the window in rows `2i`, `2i + 1` and columns
    `2j`, `2j + 1`. -/
theorem kernel_apply (x : FVec Ideal S16x256x256x64 .f32) (b : Fin 16) (i j : Fin 128) (ch : Fin 64) (r r' q q' : Fin 256)
    (hr : r.val = i.val * 2) (hr' : r'.val = i.val * 2 + 1) (hq : q.val = j.val * 2) (hq' : q'.val = j.val * 2 + 1) :
    Array.result x (ix4 b i j ch)
      = window (x (ix4 b r q ch)) (x (ix4 b r q' ch)) (x (ix4 b r' q ch)) (x (ix4 b r' q' ch)) := by
  unfold Array.result
  rw [unpaired_out_apply]
  rw [Array.pool_apply _ b i ⟨j.val / 2, by omega⟩ ⟨j.val % 2 * 64 + ch.val, by omega⟩ r r'
    ⟨j.val, by omega⟩ ⟨ch.val, by omega⟩ ⟨64 + ch.val, by omega⟩ hr hr'
    (by dsimp only; omega) (by dsimp only; omega) (by dsimp only; omega)]
  have hlo : q.val = j.val * 2 + ch.val / 64 := by omega
  have hhi : q'.val = j.val * 2 + (64 + ch.val) / 64 := by omega
  have hc : ch.val = ch.val % 64 := by omega
  have hc' : ch.val = (64 + ch.val) % 64 := by omega
  rw [paired_in_apply x b r _ _ q ch hlo hc, paired_in_apply x b r _ _ q' ch hhi hc',
    paired_in_apply x b r' _ _ q ch hlo hc, paired_in_apply x b r' _ _ q' ch hhi hc']

/-- The two results are equal, at every index. -/
theorem result_eq (x : FVec Ideal S16x256x256x64 .f32) : Array.result x = Cert.ReferenceIdeal.Pool.result x := by
  funext o
  obtain ⟨b, i, j, ch, rfl⟩ : ∃ (b : Fin 16) (i j : Fin 128) (ch : Fin 64), o = (ix4 b i j ch : S16x128x128x64.Idx) :=
    ⟨o 0, o 1, o 2, o 3, funext fun a => by fin_cases a <;> rfl⟩
  have b_r : i.val * 2 < 256 := by omega
  have b_r' : i.val * 2 + 1 < 256 := by omega
  have b_q : j.val * 2 < 256 := by omega
  have b_q' : j.val * 2 + 1 < 256 := by omega
  exact (kernel_apply x b i j ch ⟨_, b_r⟩ ⟨_, b_r'⟩ ⟨_, b_q⟩ ⟨_, b_q'⟩ rfl rfl rfl rfl).trans
    (Cert.ReferenceIdeal.Pool.result_apply x b i j ch ⟨_, b_r⟩ ⟨_, b_r'⟩ ⟨_, b_q⟩ ⟨_, b_q'⟩ rfl rfl rfl rfl).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to completion, leaves its argument as it was and every semaphore counter at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From equal arguments, the kernel over the extended reals and the reference end with equal result arrays. -/
theorem algebraic : Cert.algebraic_KernelIdeal_ReferenceIdeal := by
  intro m g m' g' _ hagree
  refine ⟨_, Cert.KernelIdeal.Array.run m g,
    (θ_run Cert.ReferenceIdeal.defs _ _).mono (fun r h c => ⟨(h c).1.trans ?_, (h c).2⟩) (Cert.ReferenceIdeal.Pool.run m' g')⟩
  exact ((Cert.Equation.result_eq _).trans (congrArg Cert.ReferenceIdeal.Pool.result (hagree c).symm)).symm

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
